-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32x32x4 : Shape := ⟨4, ![128, 32, 32, 4]⟩
abbrev S128x32 : Shape := ⟨2, ![128, 32]⟩
abbrev S128x512 : Shape := ⟨2, ![128, 512]⟩
abbrev S128x32x128 : Shape := ⟨3, ![128, 32, 128]⟩
abbrev S128x3x128x128 : Shape := ⟨4, ![128, 3, 128, 128]⟩
abbrev S32x32x128 : Shape := ⟨3, ![32, 32, 128]⟩
abbrev S32x3x128x128 : Shape := ⟨4, ![32, 3, 128, 128]⟩
abbrev S1024x128 : Shape := ⟨2, ![1024, 128]⟩
abbrev S1024x512 : Shape := ⟨2, ![1024, 512]⟩
abbrev S32x512 : Shape := ⟨2, ![32, 512]⟩
abbrev S128x128 : Shape := ⟨2, ![128, 128]⟩
abbrev S1x1x128x128 : Shape := ⟨4, ![1, 1, 128, 128]⟩
abbrev S128x128x128x3 : Shape := ⟨4, ![128, 128, 128, 3]⟩

abbrev nBuf : Space → Nat
  | .hbm => 6
  | .vmem => 6
  | .smem => 0
  | _ => 0

abbrev bufTy : (tb : Table) → Fin (tcTables nBuf tb) → BufTy
  | .hbm, ⟨0, _⟩ => ⟨S128x32x32x4, .f32⟩
  | .hbm, ⟨1, _⟩ => ⟨S128x32, .f32⟩
  | .hbm, ⟨2, _⟩ => ⟨S128x512, .f32⟩
  | .hbm, ⟨3, _⟩ => ⟨S128x32x128, .f32⟩
  | .hbm, ⟨4, _⟩ => ⟨S128x3x128x128, .f32⟩
  | .hbm, ⟨5, _⟩ => ⟨S128x128x128x3, .f32⟩
  | .local _ .vmem, ⟨0, _⟩ => ⟨S32x32x128, .f32⟩
  | .local _ .vmem, ⟨1, _⟩ => ⟨S32x32x128, .f32⟩
  | .local _ .vmem, ⟨2, _⟩ => ⟨S128x32, .f32⟩
  | .local _ .vmem, ⟨3, _⟩ => ⟨S128x512, .f32⟩
  | .local _ .vmem, ⟨4, _⟩ => ⟨S32x3x128x128, .f32⟩
  | .local _ .vmem, ⟨5, _⟩ => ⟨S32x3x128x128, .f32⟩
  | _, _ => ⟨S128x32x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x3x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x32x32x4 : Shape := ⟨4, ![128, 32, 32, 4]⟩
abbrev S128x4 : Shape := ⟨2, ![128, 4]⟩
abbrev S_ : Shape := ⟨0, ![]⟩
abbrev S128x4x1 : Shape := ⟨3, ![128, 4, 1]⟩
abbrev S1 : Shape := ⟨1, ![1]⟩
abbrev S1x1x1 : Shape := ⟨3, ![1, 1, 1]⟩
abbrev S128x128x4x32x4 : Shape := ⟨5, ![128, 128, 4, 32, 4]⟩
abbrev S128x128x32x4 : Shape := ⟨4, ![128, 128, 32, 4]⟩
abbrev S128x128x128x4x4 : Shape := ⟨5, ![128, 128, 128, 4, 4]⟩
abbrev S128x128x128x4 : Shape := ⟨4, ![128, 128, 128, 4]⟩
abbrev S128x128x128x3 : Shape := ⟨4, ![128, 128, 128, 3]⟩
abbrev S128x128x128x1 : Shape := ⟨4, ![128, 128, 128, 1]⟩

abbrev nBuf : Space → Nat
  | .hbm => 63
  | .vmem => 0
  | .smem => 0
  | _ => 0

abbrev bufTy : (tb : Table) → Fin (tcTables nBuf tb) → BufTy
  | .hbm, ⟨0, _⟩ => ⟨S128x32x32x4, .f32⟩
  | .hbm, ⟨1, _⟩ => ⟨S128x4, .f32⟩
  | .hbm, ⟨2, _⟩ => ⟨S128x4, .f32⟩
  | .hbm, ⟨3, _⟩ => ⟨S128x4, .i32⟩
  | .hbm, ⟨4, _⟩ => ⟨S128x4, .i32⟩
  | .hbm, ⟨5, _⟩ => ⟨S_, .i32⟩
  | .hbm, ⟨6, _⟩ => ⟨S128x4, .i32⟩
  | .hbm, ⟨7, _⟩ => ⟨S128x4, .i1⟩
  | .hbm, ⟨8, _⟩ => ⟨S_, .i32⟩
  | .hbm, ⟨9, _⟩ => ⟨S128x4, .i32⟩
  | .hbm, ⟨10, _⟩ => ⟨S128x4, .i32⟩
  | .hbm, ⟨11, _⟩ => ⟨S128x4, .i32⟩
  | .hbm, ⟨12, _⟩ => ⟨S128x4x1, .i32⟩
  | .hbm, ⟨13, _⟩ => ⟨S1, .i32⟩
  | .hbm, ⟨14, _⟩ => ⟨S_, .i32⟩
  | .hbm, ⟨15, _⟩ => ⟨S128x4x1, .i32⟩
  | .hbm, ⟨16, _⟩ => ⟨S128x4x1, .i1⟩
  | .hbm, ⟨17, _⟩ => ⟨S1x1x1, .i32⟩
  | .hbm, ⟨18, _⟩ => ⟨S128x4x1, .i32⟩
  | .hbm, ⟨19, _⟩ => ⟨S128x4x1, .i1⟩
  | .hbm, ⟨20, _⟩ => ⟨S128x4x1, .i1⟩
  | .hbm, ⟨21, _⟩ => ⟨S_, .i1⟩
  | .hbm, ⟨22, _⟩ => ⟨S128x4, .i1⟩
  | .hbm, ⟨23, _⟩ => ⟨S128x128x4x32x4, .f32⟩
  | .hbm, ⟨24, _⟩ => ⟨S128x128x4x32x4, .i1⟩
  | .hbm, ⟨25, _⟩ => ⟨S_, .f32⟩
  | .hbm, ⟨26, _⟩ => ⟨S128x128x4x32x4, .f32⟩
  | .hbm, ⟨27, _⟩ => ⟨S128x128x4x32x4, .f32⟩
  | .hbm, ⟨28, _⟩ => ⟨S128x128x32x4, .f32⟩
  | .hbm, ⟨29, _⟩ => ⟨S128x128x32x4, .f32⟩
  | .hbm, ⟨30, _⟩ => ⟨S_, .i32⟩
  | .hbm, ⟨31, _⟩ => ⟨S128x4, .i32⟩
  | .hbm, ⟨32, _⟩ => ⟨S128x4, .i1⟩
  | .hbm, ⟨33, _⟩ => ⟨S_, .i32⟩
  | .hbm, ⟨34, _⟩ => ⟨S128x4, .i32⟩
  | .hbm, ⟨35, _⟩ => ⟨S128x4, .i32⟩
  | .hbm, ⟨36, _⟩ => ⟨S128x4, .i32⟩
  | .hbm, ⟨37, _⟩ => ⟨S128x4x1, .i32⟩
  | .hbm, ⟨38, _⟩ => ⟨S1, .i32⟩
  | .hbm, ⟨39, _⟩ => ⟨S_, .i32⟩
  | .hbm, ⟨40, _⟩ => ⟨S128x4x1, .i32⟩
  | .hbm, ⟨41, _⟩ => ⟨S128x4x1, .i1⟩
  | .hbm, ⟨42, _⟩ => ⟨S1x1x1, .i32⟩
  | .hbm, ⟨43, _⟩ => ⟨S128x4x1, .i32⟩
  | .hbm, ⟨44, _⟩ => ⟨S128x4x1, .i1⟩
  | .hbm, ⟨45, _⟩ => ⟨S128x4x1, .i1⟩
  | .hbm, ⟨46, _⟩ => ⟨S_, .i1⟩
  | .hbm, ⟨47, _⟩ => ⟨S128x4, .i1⟩
  | .hbm, ⟨48, _⟩ => ⟨S128x128x128x4x4, .f32⟩
  | .hbm, ⟨49, _⟩ => ⟨S128x128x128x4x4, .i1⟩
  | .hbm, ⟨50, _⟩ => ⟨S_, .f32⟩
  | .hbm, ⟨51, _⟩ => ⟨S128x128x128x4x4, .f32⟩
  | .hbm, ⟨52, _⟩ => ⟨S128x128x128x4x4, .f32⟩
  | .hbm, ⟨53, _⟩ => ⟨S128x128x128x4, .f32⟩
  | .hbm, ⟨54, _⟩ => ⟨S128x128x128x4, .f32⟩
  | .hbm, ⟨55, _⟩ => ⟨S128x128x128x3, .f32⟩
  | .hbm, ⟨56, _⟩ => ⟨S128x128x128x1, .f32⟩
  | .hbm, ⟨57, _⟩ => ⟨S_, .f32⟩
  | .hbm, ⟨58, _⟩ => ⟨S_, .f32⟩
  | .hbm, ⟨59, _⟩ => ⟨S128x128x128x1, .f32⟩
  | .hbm, ⟨60, _⟩ => ⟨S128x128x128x1, .f32⟩
  | .hbm, ⟨61, _⟩ => ⟨S128x128x128x3, .f32⟩
  | .hbm, ⟨62, _⟩ => ⟨S128x128x128x3, .f32⟩
  | _, _ => ⟨S128x32x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩

abbrev nD : Nat := 1
abbrev τ : Topo := Topo.v7x

variable {F : FTy → Type} [FloatOps F]
-- ==== Proof.Words.lean ====
/- Facts about ranges of natural numbers decided by halving the range. -/
module

public import Mathlib.Data.Nat.Basic
public import Mathlib.Tactic.Ring

@[expose] public section

namespace Cert.Nurbs

/-- Tests `p` at the `2 ^ k` naturals from `lo` on. -/
def holdsFrom (p : ℕ → Bool) : ℕ → ℕ → Bool
  | 0, lo => p lo
  | k + 1, lo => and (holdsFrom p k lo) (holdsFrom p k (lo + 2 ^ k))

/-- A test passed is the fact at every natural of the range. -/
theorem holdsFrom_spec (p : ℕ → Bool) : ∀ (k lo : ℕ), holdsFrom p k lo = true → ∀ n, lo ≤ n → n < lo + 2 ^ k → p n = true
  | 0, lo, h, n, h1, h2 => by
    have : n = lo := by simp only [pow_zero] at h2; omega
    rw [this]; exact h
  | k + 1, lo, h, n, h1, h2 => by
    have h' : (holdsFrom p k lo && holdsFrom p k (lo + 2 ^ k)) = true := h
    rw [Bool.and_eq_true] at h'
    rw [pow_succ] at h2
    rcases Nat.lt_or_ge n (lo + 2 ^ k) with hn | hn
    · exact holdsFrom_spec p k lo h'.1 n h1 hn
    · exact holdsFrom_spec p k (lo + 2 ^ k) h'.2 n hn (by omega)

end Cert.Nurbs
-- ==== Proof.Spread.lean ====
/- The kernel's second basis is zero wherever it should be: the widened table has, in row `l` and column
   `128 d + v`, a nonzero word only where `l` is four times one of the four positions of row `v`, plus `d`. -/
module

public import proofs.«01_k».proof.Defs
public import proofs.«01_k».proof.Proof.Words

@[expose] public section

set_option maxRecDepth 16384

namespace Cert.Nurbs

/-- The test at one entry `n` of the widened table: its word is zero, or its row is one of the four that
    belong to its column. -/
noncomputable def spreadOff (n : ℕ) : Bool :=
  or (Nat.beq (KernelIdeal.lit1t n).toNat 0)
    (or (or (Nat.beq (n / 512) ((ReferenceIdeal.lit3t (n % 128 * 4)).toNat * 4 + n % 512 / 128))
      (Nat.beq (n / 512) ((ReferenceIdeal.lit3t (n % 128 * 4 + 1)).toNat * 4 + n % 512 / 128)))
      (or (Nat.beq (n / 512) ((ReferenceIdeal.lit3t (n % 128 * 4 + 2)).toNat * 4 + n % 512 / 128))
        (Nat.beq (n / 512) ((ReferenceIdeal.lit3t (n % 128 * 4 + 3)).toNat * 4 + n % 512 / 128))))

theorem spreadOff_0 : holdsFrom spreadOff 13 0 = true := by decide +kernel
theorem spreadOff_1 : holdsFrom spreadOff 13 8192 = true := by decide +kernel
theorem spreadOff_2 : holdsFrom spreadOff 13 16384 = true := by decide +kernel
theorem spreadOff_3 : holdsFrom spreadOff 13 24576 = true := by decide +kernel
theorem spreadOff_4 : holdsFrom spreadOff 13 32768 = true := by decide +kernel
theorem spreadOff_5 : holdsFrom spreadOff 13 40960 = true := by decide +kernel
theorem spreadOff_6 : holdsFrom spreadOff 13 49152 = true := by decide +kernel
theorem spreadOff_7 : holdsFrom spreadOff 13 57344 = true := by decide +kernel

/-- Every entry passes the test. -/
theorem spreadOff_all (n : ℕ) (h : n < 65536) : spreadOff n = true := by
  have a0 := holdsFrom_spec _ _ _ spreadOff_0 n
  have a1 := holdsFrom_spec _ _ _ spreadOff_1 n
  have a2 := holdsFrom_spec _ _ _ spreadOff_2 n
  have a3 := holdsFrom_spec _ _ _ spreadOff_3 n
  have a4 := holdsFrom_spec _ _ _ spreadOff_4 n
  have a5 := holdsFrom_spec _ _ _ spreadOff_5 n
  have a6 := holdsFrom_spec _ _ _ spreadOff_6 n
  have a7 := holdsFrom_spec _ _ _ spreadOff_7 n
  norm_num only at a0 a1 a2 a3 a4 a5 a6 a7
  rcases Nat.lt_or_ge n 8192 with h0 | h0
  · exact a0 (Nat.zero_le _) h0
  rcases Nat.lt_or_ge n 16384 with h1 | h1
  · exact a1 h0 h1
  rcases Nat.lt_or_ge n 24576 with h2 | h2
  · exact a2 h1 h2
  rcases Nat.lt_or_ge n 32768 with h3 | h3
  · exact a3 h2 h3
  rcases Nat.lt_or_ge n 40960 with h4 | h4
  · exact a4 h3 h4
  rcases Nat.lt_or_ge n 49152 with h5 | h5
  · exact a5 h4 h5
  rcases Nat.lt_or_ge n 57344 with h6 | h6
  · exact a6 h5 h6
  · exact a7 h6 h

end Cert.Nurbs
-- ==== Proof.Tables.lean ====
/- The other facts about the printed tables: the kernel's first basis is zero off its four positions per row; on
   the positions both of the kernel's tables hold the reference's words; the reference's words are floats that are
   neither negative nor infinite; a row's four positions follow one another. -/
module

public import proofs.«01_k».proof.Defs
public import proofs.«01_k».proof.Proof.Words

@[expose] public section

set_option maxRecDepth 16384

namespace Cert.Nurbs

/-- The test at one entry `n` of the kernel's first basis: its word is zero, or its column is one of the four
    positions of its row. -/
noncomputable def basisOff (n : ℕ) : Bool :=
  or (Nat.beq (KernelIdeal.lit0t n).toNat 0)
    (or (or (Nat.beq (n % 32) (ReferenceIdeal.lit2t (n / 32 * 4)).toNat)
      (Nat.beq (n % 32) (ReferenceIdeal.lit2t (n / 32 * 4 + 1)).toNat))
      (or (Nat.beq (n % 32) (ReferenceIdeal.lit2t (n / 32 * 4 + 2)).toNat)
        (Nat.beq (n % 32) (ReferenceIdeal.lit2t (n / 32 * 4 + 3)).toNat)))

/-- The test at one entry `n = 4 u + i` of the reference's first table: the kernel's first basis holds the same
    word in row `u` at the entry's position. -/
noncomputable def basisOn (n : ℕ) : Bool :=
  Nat.beq (KernelIdeal.lit0t (n / 4 * 32 + (ReferenceIdeal.lit2t n).toNat)).toNat (ReferenceIdeal.lit0t n).toNat

/-- The test at `n = 512 d + 4 v + j`: the widened second basis holds the word of the reference's second table at
    entry `4 v + j`, in the row of the entry's position and coordinate `d`, and in column `128 d + v`. -/
noncomputable def spreadOn (n : ℕ) : Bool :=
  Nat.beq (KernelIdeal.lit1t (((ReferenceIdeal.lit3t (n % 512)).toNat * 4 + n / 512) * 512 + (128 * (n / 512) + n % 512 / 4))).toNat
    (ReferenceIdeal.lit1t (n % 512)).toNat

/-- The test of one entry of the reference's tables: both words are below the infinite one, and the positions
    are the row's first plus the column. -/
noncomputable def entryGood (n : ℕ) : Bool :=
  and (and (Nat.blt (ReferenceIdeal.lit0t n).toNat 0x7F800000) (Nat.blt (ReferenceIdeal.lit1t n).toNat 0x7F800000))
    (and (Nat.beq (ReferenceIdeal.lit2t n).toNat ((ReferenceIdeal.lit2t (n / 4 * 4)).toNat + n % 4))
      (Nat.beq (ReferenceIdeal.lit3t n).toNat ((ReferenceIdeal.lit3t (n / 4 * 4)).toNat + n % 4)))

theorem basisOff_test : holdsFrom basisOff 12 0 = true := by decide +kernel
theorem basisOn_test : holdsFrom basisOn 9 0 = true := by decide +kernel
theorem spreadOn_test : holdsFrom spreadOn 11 0 = true := by decide +kernel
theorem entryGood_test : holdsFrom entryGood 9 0 = true := by decide +kernel

end Cert.Nurbs
-- ==== Proof.Algebra.lean ====
/- The extended reals' part: sums with coefficients that are neither negative nor infinite distribute and swap,
   a sum whose coefficients vanish off four positions is the sum over the four, and a product with a reciprocal
   is a quotient where the divisor is not zero. -/
module

public import Idealize.ShloMosaic.Lib.Pointwise
public import Idealize.ShloMosaic.Lib.IdealHost
public import Mathlib.Data.EReal.Operations

@[expose] public section

noncomputable section

open Idealize.ShloMosaic

namespace Cert.Nurbs

/-- A coefficient that is neither negative nor infinite. -/
def Good (c : EReal) : Prop := 0 ≤ c ∧ c ≠ ⊤

/-- A float whose word is below the infinite one is neither negative nor infinite. -/
theorem good_ofBits (b : BitVec 32) (h : b.toNat < 0x7F800000) : Good (Ideal.ofBits .f32 b) := by
  have hs : (b.extractLsb' 31 1 == 1#1) = false := by
    rw [beq_eq_false_iff_ne]
    intro e
    have := congrArg BitVec.toNat e
    simp only [BitVec.extractLsb'_toNat, Nat.shiftRight_eq_div_pow] at this
    norm_num at this
    omega
  have hx : (b.extractLsb' 23 8).toNat ≠ 255 := by
    simp only [BitVec.extractLsb'_toNat, Nat.shiftRight_eq_div_pow]
    norm_num
    omega
  have hx' : (b.extractLsb' 23 8).toNat ≠ 2 ^ 8 - 1 := hx
  show Good (Ideal.ieee 8 23 b)
  simp only [Ideal.ieee, hs, if_neg hx']
  split
  · exact ⟨EReal.coe_nonneg.2 (by simp only [Bool.false_eq_true, if_false]; positivity), EReal.coe_ne_top _⟩
  · exact ⟨EReal.coe_nonneg.2 (by simp only [Bool.false_eq_true, if_false]; positivity), EReal.coe_ne_top _⟩

/-- A good coefficient distributes over a finite sum. -/
theorem Good.mul_sum {c : EReal} (h : Good c) {ι : Type} [DecidableEq ι] (s : Finset ι) (f : ι → EReal) :
    c * ∑ i ∈ s, f i = ∑ i ∈ s, c * f i := by
  induction s using Finset.induction_on with
  | empty => simp
  | insert a s ha ih =>
    rw [Finset.sum_insert ha, Finset.sum_insert ha, EReal.left_distrib_of_nonneg_of_ne_top h.1 h.2, ih]

/-- Two nested weighted sums with good weights, nested the other way round. -/
theorem sum_swap {m n : ℕ} (x : Fin m → Fin n → EReal) (a : Fin m → EReal) (b : Fin n → EReal)
    (ha : ∀ i, Good (a i)) (hb : ∀ j, Good (b j)) :
    ∑ i, a i * ∑ j, x i j * b j = ∑ j, (∑ i, x i j * a i) * b j := by
  have h1 : ∀ i, a i * ∑ j, x i j * b j = ∑ j, a i * (x i j * b j) := fun i => (ha i).mul_sum _ _
  have h2 : ∀ j, (∑ i, x i j * a i) * b j = ∑ i, b j * (x i j * a i) := fun j => by
    rw [mul_comm, (hb j).mul_sum]
  rw [Finset.sum_congr rfl fun i _ => h1 i, Finset.sum_congr rfl fun j _ => h2 j, Finset.sum_comm]
  refine Finset.sum_congr rfl fun j _ => Finset.sum_congr rfl fun i _ => ?_
  rw [mul_left_comm, mul_comm (a i), mul_left_comm]

/-- The lower bound of the weight is positive. -/
theorem eps_pos : 0 < Ideal.ofBits .f32 0x322BCC77#32 := by
  simp [Ideal.ofBits, Ideal.ieee, -EReal.coe_mul]

/-- A product with the reciprocal of the bounded weight is the quotient by it. -/
theorem mul_recip (x w : EReal) :
    x * Ideal.div 1 (max w (Ideal.ofBits .f32 0x322BCC77#32)) = Ideal.div x (max (Ideal.ofBits .f32 0x322BCC77#32) w) := by
  have h : max (Ideal.ofBits .f32 0x322BCC77#32) w ≠ 0 := (lt_of_lt_of_le eps_pos (le_max_left _ _)).ne'
  rw [max_comm w, Ideal.div, Ideal.div, if_neg h, if_neg h, one_mul]

end Cert.Nurbs
-- ==== Proof.RefTake.lean ====
/- The reference's two takes. Each gathers the operand at a table of positions; the table's words lie in
   range, so the wrap of a negative word, the clamp and the mask of the words out of range change nothing:
   the take reads the operand at the table's own words. -/
module

public import proofs.«01_k».proof.Defs
public import proofs.«01_k».proof.Proof.Gen.ReferenceIdeal
public import Idealize.ShloMosaic.Lib.Pointwise
public import Idealize.ShloMosaic.Lib.Decide

@[expose] public section

set_option maxRecDepth 16384

noncomputable section

open Idealize.ShloMosaic Idealize.ShloMosaic.TcCoe Idealize.SL.Sem

namespace Cert.Nurbs.Ref

open Cert.ReferenceIdeal Cert.ReferenceIdeal.Gen

/-- Every word of the first table of positions is below 32. -/
theorem posU_lt : ∀ n : Fin 512, (lit2 n).toNat < 32 := by decide +kernel

/-- Every word of the second table of positions is below 32. -/
theorem posV_lt : ∀ n : Fin 512, (lit3 n).toNat < 32 := by decide +kernel

/-- A table of positions as the reference prepares it: 32 is added to a negative word. -/
def wrapped (w : IVec S128x4 32) : IVec S128x4 32 :=
  select (cmpi .slt w (broadcastInDim S128x4 ![] bcast_S_S128x4 (constantI S_ 32 0#32)))
    (addi w (broadcastInDim S128x4 ![] bcast_S_S128x4 (constantI S_ 32 32#32))) w

/-- The table as a column of start indices. -/
def starts (w : IVec S128x4 32) : IVec S128x4x1 32 :=
  broadcastInDim S128x4x1 ![0, 1] bcast_S128x4_S128x4x1_0_1 (wrapped w)

/-- The mask of the positions that lie in range. -/
def inRange (w : IVec S128x4 32) : IVec S128x4 1 :=
  Host.reduce IntOp.andi
    (andi (cmpi .sge (starts w) (broadcastInDim S128x4x1 ![] bcast_S_S128x4x1 (constantI S_ 32 0#32)))
      (cmpi .sle (starts w) (broadcastInDim S128x4x1 ![0, 1, 2] bcast_S1x1x1_S128x4x1_0_1_2
        (broadcastInDim S1x1x1 ![2] bcast_S1_S1x1x1_2 (constantI S1 32 31#32)))))
    (constantI S_ 1 1#1) reducesTo_S128x4x1_S128x4_d2 h_S_

/-- A word whose number is below 32 is one of the words 0 to 31. -/
theorem word_eq (x : BitVec 32) (h : x.toNat < 32) : ∃ n : Fin 32, x = BitVec.ofNat 32 n :=
  ⟨⟨x.toNat, h⟩, by simp⟩

theorem wrap_word : ∀ n : Fin 32, Scalar.select (IntOp.cmpi .slt (BitVec.ofNat 32 n) 0#32)
    (IntOp.addi (BitVec.ofNat 32 n) 32#32) (BitVec.ofNat 32 n) = BitVec.ofNat 32 n := by decide

theorem mask_word : ∀ n : Fin 32, IntOp.andi (IntOp.cmpi .sge (BitVec.ofNat 32 n) 0#32)
    (IntOp.cmpi .sle (BitVec.ofNat 32 n) 31#32) = 1#1 := by decide

theorem clamp_word : ∀ n : Fin 32, min (BitVec.ofNat 32 n).toInt.toNat 31 = n := by decide

/-- Words below 32 are not negative, so none is wrapped. -/
theorem wrapped_apply (w : IVec S128x4 32) (h : ∀ i, (w i).toNat < 32) (i : S128x4.Idx) : wrapped w i = w i := by
  obtain ⟨n, hn⟩ := word_eq (w i) (h i)
  pointwise [wrapped]
  rw [hn]
  exact wrap_word n

theorem starts_apply (w : IVec S128x4 32) (h : ∀ i, (w i).toNat < 32) (a : Fin 128) (b : Fin 4) (z : Fin 1) :
    starts w (ix3 a b z) = w (ix2 a b) := by
  pointwise [starts]
  exact wrapped_apply w h _

/-- Words below 32 are all in range: the mask is set everywhere. -/
theorem inRange_apply (w : IVec S128x4 32) (h : ∀ i, (w i).toNat < 32) (a : Fin 128) (b : Fin 4) :
    inRange w (ix2 a b) = 1#1 := by
  obtain ⟨n, hn⟩ := word_eq (w (ix2 a b)) (h _)
  pointwise [inRange]
  rw [Finset.univ_unique, Finset.fold_singleton, starts_apply w h, hn, mask_word]
  decide

/-- The first take's gather at an index: the operand's second axis read at the clamped start index. -/
theorem gatherU (x : FVec Ideal S128x32x32x4 .f32) (idx : IVec S128x4x1 32) (b : Fin 128) (u : Fin 128) (i : Fin 4) (k : Fin 32) (c : Fin 4) :
    Host.gather gather_S128x32x32x4_S128x4x1_S128x128x4x32x4_034_1_n_n_1_2_1281324 x idx (ix5 b u i k c)
      = x (ix4 b ⟨min (idx (ix3 u i 0)).toInt.toNat 31, by omega⟩ k c) := by
  unfold Host.gather
  congr 1
  funext a
  refine Fin.ext ?_
  match a with
  | ⟨0, _⟩ => exact Nat.zero_add (b : ℕ)
  | ⟨1, _⟩ =>
    refine congrArg (fun z => min (idx z).toInt.toNat 31) (a₂ := ix3 u i 0) ?_
    funext e
    match e with
    | ⟨0, _⟩ => rfl
    | ⟨1, _⟩ => rfl
    | ⟨2, _⟩ => rfl
  | ⟨2, _⟩ => exact Nat.zero_add (k : ℕ)
  | ⟨3, _⟩ => exact Nat.zero_add (c : ℕ)

/-- The second take's gather at an index: the operand's third axis read at the clamped start index. -/
theorem gatherV (x : FVec Ideal S128x128x32x4 .f32) (idx : IVec S128x4x1 32) (b : Fin 128) (u : Fin 128) (v : Fin 128) (j : Fin 4) (c : Fin 4) :
    Host.gather gather_S128x128x32x4_S128x4x1_S128x128x128x4x4_014_2_n_n_2_2_12812814 x idx (ix5 b u v j c)
      = x (ix4 b u ⟨min (idx (ix3 v j 0)).toInt.toNat 31, by omega⟩ c) := by
  unfold Host.gather
  congr 1
  funext a
  refine Fin.ext ?_
  match a with
  | ⟨0, _⟩ => exact Nat.zero_add (b : ℕ)
  | ⟨1, _⟩ => exact Nat.zero_add (u : ℕ)
  | ⟨2, _⟩ =>
    refine congrArg (fun z => min (idx z).toInt.toNat 31) (a₂ := ix3 v j 0) ?_
    funext e
    match e with
    | ⟨0, _⟩ => rfl
    | ⟨1, _⟩ => rfl
    | ⟨2, _⟩ => rfl
  | ⟨3, _⟩ => exact Nat.zero_add (c : ℕ)

/-- The first take: the operand gathered along its second axis where the position is in range, and NaN elsewhere. -/
def takeU (w : IVec S128x4 32) (x : FVec Ideal S128x32x32x4 .f32) : FVec Ideal S128x128x4x32x4 .f32 :=
  select (broadcastInDim S128x128x4x32x4 ![1, 2] bcast_S128x4_S128x128x4x32x4_1_2 (inRange w))
    (Host.gather gather_S128x32x32x4_S128x4x1_S128x128x4x32x4_034_1_n_n_1_2_1281324 x (starts w))
    (broadcastInDim S128x128x4x32x4 ![] bcast_S_S128x128x4x32x4 (constant S_ .f32 0x7FC00000#32))

/-- The second take: the same along the third axis. -/
def takeV (w : IVec S128x4 32) (x : FVec Ideal S128x128x32x4 .f32) : FVec Ideal S128x128x128x4x4 .f32 :=
  select (broadcastInDim S128x128x128x4x4 ![2, 3] bcast_S128x4_S128x128x128x4x4_2_3 (inRange w))
    (Host.gather gather_S128x128x32x4_S128x4x1_S128x128x128x4x4_014_2_n_n_2_2_12812814 x (starts w))
    (broadcastInDim S128x128x128x4x4 ![] bcast_S_S128x128x128x4x4 (constant S_ .f32 0x7FC00000#32))

/-- The clamp of a word below 32 is its number. -/
theorem clamp_eq (w : IVec S128x4 32) (h : ∀ i, (w i).toNat < 32) (a : Fin 128) (b : Fin 4) :
    min (starts w (ix3 a b 0)).toInt.toNat 31 = (w (ix2 a b)).toNat := by
  obtain ⟨n, hn⟩ := word_eq (w (ix2 a b)) (h _)
  rw [starts_apply w h, hn, clamp_word n]
  simp [Nat.mod_eq_of_lt (show (n : ℕ) < 4294967296 by omega)]

/-- The first take, its words below 32, reads the operand at the table's word. -/
theorem takeU_apply (w : IVec S128x4 32) (h : ∀ i, (w i).toNat < 32) (x : FVec Ideal S128x32x32x4 .f32)
    (b : Fin 128) (u : Fin 128) (i : Fin 4) (k : Fin 32) (c : Fin 4) :
    takeU w x (ix5 b u i k c) = x (ix4 b ⟨(w (ix2 u i)).toNat, h _⟩ k c) := by
  have e : ∀ p q : EReal, Scalar.select (inRange w (ix2 u i)) p q = p := fun p q => by
    rw [inRange_apply w h]; rfl
  pointwise [takeU]
  rw [e, gatherU]
  congr 2
  exact Fin.ext (clamp_eq w h u i)

/-- The second take, its words below 32, reads the operand at the table's word. -/
theorem takeV_apply (w : IVec S128x4 32) (h : ∀ i, (w i).toNat < 32) (x : FVec Ideal S128x128x32x4 .f32)
    (b : Fin 128) (u : Fin 128) (v : Fin 128) (j : Fin 4) (c : Fin 4) :
    takeV w x (ix5 b u v j c) = x (ix4 b u ⟨(w (ix2 v j)).toNat, h _⟩ c) := by
  have e : ∀ p q : EReal, Scalar.select (inRange w (ix2 v j)) p q = p := fun p q => by
    rw [inRange_apply w h]; rfl
  pointwise [takeV]
  rw [e, gatherV]
  congr 2
  exact Fin.ext (clamp_eq w h v j)

end Cert.Nurbs.Ref
-- ==== Proof.RefValue.lean ====
/- The reference's result at an index: two nested sums of four terms each, over the tables' words. -/
module

public import proofs.«01_k».proof.Defs
public import proofs.«01_k».proof.Proof.Gen.ReferenceIdeal
public import proofs.«01_k».proof.Proof.Gen.ReferenceIdeal.Run
public import proofs.«01_k».proof.Proof.RefTake
public import Idealize.ShloMosaic.Lib.Pointwise

@[expose] public section

set_option maxRecDepth 16384

noncomputable section

open Idealize.ShloMosaic Idealize.ShloMosaic.TcCoe Idealize.SL.Sem

namespace Cert.Nurbs.Ref

open Cert.ReferenceIdeal Cert.ReferenceIdeal.Gen

/-- The reference's weighted surface before the quotient, over the control points `x`. -/
def surf (x : FVec Ideal S128x32x32x4 .f32) : FVec Ideal S128x128x128x4 .f32 :=
  transpose S128x128x128x4 [1, 2, 0, 3]
    (Host.dotGeneral dot_S128x128x128x4x4_S128x4_S128x128x128x4_3_1_014_n_2_0 none
      (takeV (fun i => lit3 (S128x4.rowMajor i))
        (transpose S128x128x32x4 [1, 0, 2, 3]
          (Host.dotGeneral dot_S128x128x4x32x4_S128x4_S128x128x32x4_2_1_034_n_1_0 none
            (takeU (fun i => lit2 (S128x4.rowMajor i)) x)
            ((fun i => FloatOps.ofBits .f32 (lit0 (S128x4.rowMajor i))) : FVec Ideal S128x4 .f32))
          transposes_S128x128x32x4_S128x128x32x4_1_0_2_3))
      ((fun i => FloatOps.ofBits .f32 (lit1 (S128x4.rowMajor i))) : FVec Ideal S128x4 .f32))
    transposes_S128x128x128x4_S128x128x128x4_1_2_0_3

/-- The reference's result over the control points `x`. -/
def out (x : FVec Ideal S128x32x32x4 .f32) : FVec Ideal S128x128x128x3 .f32 :=
  Host.divf (extractStridedSlice S128x128x128x3 ![0, 0, 0, 0] (surf x) slices_S128x128x128x4_S128x128x128x3_0_0_0_0)
    (broadcastInDim S128x128x128x3 ![0, 1, 2, 3] bcast_S128x128x128x1_S128x128x128x3_0_1_2_3
      (maximumf (broadcastInDim S128x128x128x1 ![] bcast_S_S128x128x128x1 (id (constant S_ .f32 0x322BCC77#32)))
        (extractStridedSlice S128x128x128x1 ![0, 0, 0, 3] (surf x) slices_S128x128x128x4_S128x128x128x1_0_0_0_3)))

/-- The run's composed term is `out` of the argument. -/
theorem res_eq (m : (ℓ : Loc nD τ sig) → Buf (Elt Ideal) ℓ) (c : Dev nD) :
    Cert.ReferenceIdeal.Value.res_main_v10 m c = out (m ((c.tc : Thread nD τ).loc main_arg0)) := rfl

/-- The position that the first table gives row `u` in its column `i`. -/
def posU (u : Fin 128) (i : Fin 4) : Fin 32 := ⟨(lit2 (S128x4.rowMajor (ix2 u i))).toNat, posU_lt _⟩

/-- The position that the second table gives row `v` in its column `j`. -/
def posV (v : Fin 128) (j : Fin 4) : Fin 32 := ⟨(lit3 (S128x4.rowMajor (ix2 v j))).toNat, posV_lt _⟩

/-- The first basis table's entry. -/
def wU (u : Fin 128) (i : Fin 4) : EReal := Ideal.ofBits .f32 (lit0 (S128x4.rowMajor (ix2 u i)))

/-- The second basis table's entry. -/
def wV (v : Fin 128) (j : Fin 4) : EReal := Ideal.ofBits .f32 (lit1 (S128x4.rowMajor (ix2 v j)))

/-- The weighted surface at an index: four rows of each table, the control point at the tables' positions. -/
theorem surf_apply (x : FVec Ideal S128x32x32x4 .f32) (b : Fin 128) (u : Fin 128) (v : Fin 128) (c : Fin 4) :
    surf x (ix4 b u v c) = ∑ j, (∑ i, x (ix4 b (posU u i) (posV v j) c) * wU u i) * wV v j := by
  pointwise [surf]
  refine Finset.sum_congr rfl fun j _ => congrArg (· * wV v j) ?_
  refine (takeV_apply _ (fun _ => posV_lt _) _ b u v j c).trans ?_
  pointwise
  refine Finset.sum_congr rfl fun i _ => congrArg (· * wU u i) ?_
  exact takeU_apply _ (fun _ => posU_lt _) x b u i (posV v j) c

/-- The result at an index: a coordinate's weighted sum over the weight's, the weight bounded below. -/
theorem out_apply (x : FVec Ideal S128x32x32x4 .f32) (b : Fin 128) (u : Fin 128) (v : Fin 128) (d : Fin 3) :
    out x (ix4 b u v d) = Ideal.div (surf x (ix4 b u v ⟨d, by omega⟩)) (max (Ideal.ofBits .f32 0x322BCC77#32) (surf x (ix4 b u v 3))) := by
  pointwise [out]
  rfl

end Cert.Nurbs.Ref
-- ==== Proof.Tile.lean ====
/- What the kernel's body stores at a grid point. The body multiplies a block of 32 control nets by the second
   basis once, then writes 96 tiles: for each of the 32 nets and each of the 3 coordinates, the first basis
   times the net's rows, times the reciprocal of the bounded weight. Each tile is one and the same expression
   at its own net and coordinate, so the whole block is one function of the block's index. -/
module

public import proofs.«01_k».proof.Defs
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Nurbs.Ker

open Cert.KernelIdeal Cert.KernelIdeal.Gen

/-- The projected surface of net `a` of a block at row `u`, column `q` of the widened second basis: the first
    basis `x1` times the block's rows `x0` times the second basis `x2`. -/
def proj (x0 : FVec Ideal S32x32x128 .f32) (x1 : FVec Ideal S128x32 .f32) (x2 : FVec Ideal S128x512 .f32)
    (a : Fin 32) (u : Fin 128) (q : Fin 512) : EReal :=
  ∑ k : Fin 32, x1 (ix2 u k) * ∑ l : Fin 128, x0 (ix3 a k l) * x2 (ix2 l q)

/-- What the body leaves at net `a`, coordinate `d`, place `(u, v)`: the coordinate's projected surface times
    the reciprocal of the bounded weight. -/
def cell (x0 : FVec Ideal S32x32x128 .f32) (x1 : FVec Ideal S128x32 .f32) (x2 : FVec Ideal S128x512 .f32)
    (a : Fin 32) (d : Fin 3) (u v : Fin 128) : EReal :=
  proj x0 x1 x2 a u ⟨128 * d + v, by omega⟩
    * Ideal.div 1 (max (proj x0 x1 x2 a u ⟨384 + v, by omega⟩) (Ideal.ofBits .f32 0x322BCC77#32))

/-- The block as a function of its index. -/
def block (x0 : FVec Ideal S32x32x128 .f32) (x1 : FVec Ideal S128x32 .f32) (x2 : FVec Ideal S128x512 .f32) :
    FVec Ideal S32x3x128x128 .f32 := fun y => cell x0 x1 x2 (y 0) (y 1) (y 2) (y 3)

/-- The block's product with the second basis, read at net `a` and row `k`. -/
theorem spread_apply (x0 : FVec Ideal S32x32x128 .f32) (x2 : FVec Ideal S128x512 .f32) (a k : Fin 32) (q : Fin 512)
    (r : Fin 1024) (hr : (r : ℕ) = 32 * a + k) :
    k0_pay5 x0 x2 (ix2 r q) = ∑ l : Fin 128, x0 (ix3 a k l) * x2 (ix2 l q) := by
  have h1 : (⟨(r : ℕ) / 32, by omega⟩ : Fin 32) = a := Fin.ext (by simp only; omega)
  have h2 : (⟨(r : ℕ) % 32, by omega⟩ : Fin 32) = k := Fin.ext (by simp only; omega)
  pointwise [k0_pay5]
  exact Finset.sum_congr rfl fun l _ => congrArg (· * x2 (ix2 l q)) (congrArg₂ (fun p t => x0 (ix3 p t l)) h1 h2)

/-- The first basis times the rows of one net. -/
def tileProj (x1 : FVec Ideal S128x32 .f32) (y : FVec Ideal S1024x512 .f32) (o : ℕ) (ho : S1024x512.Slices ![o, 0] S32x512) :
    FVec Ideal S128x512 .f32 :=
  matmul dot_S128x32_S32x512_S128x512_1_0_0_1_n_n none x1 (extractStridedSlice S32x512 ![o, 0] y ho)
    (constant S128x512 .f32 0x00000000#32)

/-- One stored tile: a coordinate's columns times the reciprocal of the bounded weight's columns. -/
def tile (p : FVec Ideal S128x512 .f32) (n : ℕ) (hn : S128x512.Slices ![0, n] S128x128) : FVec Ideal S1x1x128x128 .f32 :=
  shapeCast S1x1x128x128
    (mulf (extractStridedSlice S128x128 ![0, n] p hn)
      (divf (broadcast S128x128 (Scalar.ofBits .f32 0x3F800000#32))
        (maximumf (extractStridedSlice S128x128 ![0, 384] p slices_S128x512_o0_384_S128x128)
          (broadcast S128x128 (Scalar.ofBits .f32 0x322BCC77#32)))))
    shapeCasts_S128x128_S1x1x128x128

/-- The first basis times the rows of net `a`, read at an index. -/
theorem tileProj_apply (x0 : FVec Ideal S32x32x128 .f32) (x1 : FVec Ideal S128x32 .f32) (x2 : FVec Ideal S128x512 .f32)
    (a : Fin 32) (o : ℕ) (ho : S1024x512.Slices ![o, 0] S32x512) (eo : o = 32 * a) (u : Fin 128) (q : Fin 512) :
    tileProj x1 (k0_pay5 x0 x2) o ho (ix2 u q) = proj x0 x1 x2 a u q := by
  pointwise [tileProj]
  exact Finset.sum_congr rfl fun k _ => congrArg (x1 (ix2 u k) * ·)
    (spread_apply x0 x2 a k q _ (by simp only [eo]))

/-- A stored tile, read at an index. -/
theorem tile_apply (x0 : FVec Ideal S32x32x128 .f32) (x1 : FVec Ideal S128x32 .f32) (x2 : FVec Ideal S128x512 .f32)
    (a : Fin 32) (d : Fin 3) (o n : ℕ) (ho : S1024x512.Slices ![o, 0] S32x512) (hn : S128x512.Slices ![0, n] S128x128)
    (eo : o = 32 * a) (en : n = 128 * d) (u v : Fin 128) :
    tile (tileProj x1 (k0_pay5 x0 x2) o ho) n hn (ix4 0 0 u v) = cell x0 x1 x2 a d u v := by
  subst en
  pointwise [tile]
  rw [tileProj_apply x0 x1 x2 a o ho eo, tileProj_apply x0 x1 x2 a o ho eo]
  rfl

/-- One stored tile at its own index `x` is the block at the index `y` where the tile lies. -/
theorem stored (x0 : FVec Ideal S32x32x128 .f32) (x1 : FVec Ideal S128x32 .f32) (x2 : FVec Ideal S128x512 .f32)
    {X0 : FVec Ideal S32x32x128 .f32} {X1 : FVec Ideal S128x32 .f32} {X2 : FVec Ideal S128x512 .f32}
    {o n : ℕ} {ho : S1024x512.Slices ![o, 0] S32x512} {hn : S128x512.Slices ![0, n] S128x128}
    (y : S32x3x128x128.Idx) (x : S1x1x128x128.Idx) (e0 : X0 = x0) (e1 : X1 = x1) (e2 : X2 = x2)
    (eo : o = 32 * (y 0 : ℕ)) (en : n = 128 * (y 1 : ℕ)) (h2 : (y 2 : ℕ) = x 2) (h3 : (y 3 : ℕ) = x 3) :
    tile (tileProj X1 (k0_pay5 X0 X2) o ho) n hn x = block x0 x1 x2 y := by
  subst e0 e1 e2
  idx_vars x
  have z0 : x0 = 0 := Subsingleton.elim _ _
  have z1 : x1 = 0 := Subsingleton.elim _ _
  subst z0 z1
  refine (tile_apply X0 X1 X2 (y 0) (y 1) o n ho hn eo en x2 x3).trans ?_
  exact congrArg₂ (cell X0 X1 X2 (y 0) (y 1)) (Fin.ext h2.symm) (Fin.ext h3.symm)

/-- The body's block is `block` of the loaded blocks. -/
theorem out_eq (x0 : FVec Ideal S32x32x128 .f32) (x1 : FVec Ideal S128x32 .f32) (x2 : FVec Ideal S128x512 .f32) :
    out0_3 (F := Ideal) x0 x1 x2 = block x0 x1 x2 := by
  funext y
  unfold out0_3
  canon_tiles x h
  all_goals
    refine stored x0 x1 x2 y x ?_ ?_ ?_ ?_ ?_ h2 h3
    · exact View.ld_unit_zero (by decide) _ _
    · exact View.ld_unit_zero (by decide) _ _
    · exact View.ld_unit_zero (by decide) _ _
    · omega
    · omega

end Cert.Nurbs.Ker
-- ==== Proof.KernelValue.lean ====
/- The kernel's result array after the run, as a function of its argument. -/
module

public import proofs.«01_k».proof.Defs
public import proofs.«01_k».proof.Proof.Gen.KernelIdeal.Frame
public import proofs.«01_k».proof.Proof.Tile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Nurbs.Ker

open Cert.KernelIdeal Cert.KernelIdeal.Gen

variable (m : (ℓ : Loc nD τ sig) → Buf (Elt Ideal) ℓ)

/-- The first basis, as the program's table. -/
def basis : FVec Ideal S128x32 .f32 := fun i => FloatOps.ofBits .f32 (lit0 (S128x32.rowMajor i))

/-- The widened second basis, as the program's table. -/
def spread : FVec Ideal S128x512 .f32 := fun i => FloatOps.ofBits .f32 (lit1 (S128x512.rowMajor i))

/-- The projected surface of net `b` over the argument `x`: row `u`, column `q` of the widened second basis. -/
def projOf (x : FVec Ideal S128x32x32x4 .f32) (b : Fin 128) (u : Fin 128) (q : Fin 512) : EReal :=
  ∑ k : Fin 32, basis (ix2 u k) * ∑ l : Fin 128, x (ix4 b k ⟨l / 4, by omega⟩ ⟨l % 4, by omega⟩) * spread (ix2 l q)

/-- The kernel's array over the argument `x`: net, coordinate, row, column. -/
def arr (x : FVec Ideal S128x32x32x4 .f32) : FVec Ideal S128x3x128x128 .f32 := fun y =>
  projOf x (y 0) (y 2) ⟨128 * (y 1 : ℕ) + (y 3 : ℕ), by have := (y 1).isLt; have := (y 3).isLt; simp at *; omega⟩
    * Ideal.div 1 (max (projOf x (y 0) (y 2) ⟨384 + (y 3 : ℕ), by have := (y 3).isLt; simp at *; omega⟩) (Ideal.ofBits .f32 0x322BCC77#32))

/-- The windows' block indices at every grid point. -/
theorem idx : ∀ t : Fin cfg0.N, win0_0.index t = ![t.val, 0, 0] ∧ win0_1.index t = ![0, 0] ∧ win0_2.index t = ![0, 0]
    ∧ win0_3.index t = ![t.val, 0, 0, 0] :=
  (by decide +kernel : ∀ t : Fin grid0.N, _)

/-- The region's first operand is the argument with its last two axes merged. -/
theorem entry0 (c : Dev nD) (y : S128x32x128.Idx) :
    V m c main_v0 y = m ((c : Thread nD τ).loc main_arg0) (ix4 (y 0) (y 1) ⟨(y 2 : ℕ) / 4, by idx_bounds y; omega⟩ ⟨(y 2 : ℕ) % 4, by omega⟩) := by
  have e : V m c main_v0 = shapeCast S128x32x128 (show FVec Ideal S128x32x32x4 .f32 from m ((c : Thread nD τ).loc main_arg0))
      shapeCasts_S128x32x32x4_S128x32x128 := by
    unfold_abbrev_sides
    after_results <;> rfl
  rw [e]
  pointwise

/-- What the body leaves at index `y` of a grid point's block is the array at the index where `y` lies. -/
theorem point (c : Dev nD) (t : Fin cfg0.N) (y : S32x3x128x128.Idx) :
    block (iblk m c 0 t) (iblk m c 1 t) (iblk m c 2 t) y
      = arr (m ((c : Thread nD τ).loc main_arg0)) (((cfg0.win 3).blk t).view.emb y) := by
  pointwise [block, cell, proj, arr, projOf]
  blk_point [iblk, V, idx t, basis, spread]
  rw [entry0 m c]
  blk_ext [idx t]

/-- The output window's array after the run. -/
theorem final (c : Dev nD) : (dats m 0 c).arrAt 3 (cfgs 0).N = arr (m ((c : Thread nD τ).loc main_arg0)) := by
  refine (dats m 0 c).arrAt_eq_of_covers 3 _ (by decide +kernel) fun t _ y => ?_
  blk_simp
  rw [after0_3, out_eq]
  exact point m c t y

/-- The kernel's result over the argument `x`: the array with the coordinate last. -/
def out (x : FVec Ideal S128x32x32x4 .f32) : FVec Ideal S128x128x128x3 .f32 :=
  transpose S128x128x128x3 [0, 2, 3, 1] (arr x) transposes_S128x3x128x128_S128x128x128x3_0_2_3_1

/-- The last host operation leaves the array transposed. -/
theorem tail (c : Dev nD) :
    Pipeline.afterTail₀ cfgs (dats m) 0 (V0 m) [hostOps1] c main_v2 = out (m ((c : Thread nD τ).loc main_arg0)) := by
  have e : Pipeline.withArrays spec0 c (V0 m c) (fun w => (dats m 0 c).arrAt w (cfgs 0).N) (Proc.devRef .tc main_v1)
      = arr (m ((c : Thread nD τ).loc main_arg0)) :=
    (Pipeline.withArrays_arr spec0 (by decide) c (V0 m c) _ 3).trans (final m c)
  unfold Pipeline.afterTail₀
  have e2 : StableHlo.after [hostOps1 (F := Ideal)].flatten
        (Pipeline.withArrays spec0 c (V0 m c) (fun w => (dats m 0 c).arrAt w (cfgs 0).N)) (Proc.devRef .tc main_v2)
      = transpose S128x128x128x3 [0, 2, 3, 1] (show FVec Ideal S128x3x128x128 .f32 from
          Pipeline.withArrays spec0 c (V0 m c) (fun w => (dats m 0 c).arrAt w (cfgs 0).N) (Proc.devRef .tc main_v1))
          transposes_S128x3x128x128_S128x128x128x3_0_2_3_1 := by
    unfold_abbrev_sides
    after_results <;> rfl
  refine e2.trans ?_
  rw [e]
  rfl

/-- The kernel's run: its result is `out` of the argument, and the argument ends unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v2) = out (m ((c.tc : Thread nD τ).loc main_arg0))
      ∧ r.2.mem ((c.tc : Thread nD τ).loc main_arg0) = m ((c.tc : Thread nD τ).loc main_arg0) := by
  refine (θ_run defs _ _).mono (fun r h c => ⟨?_, ?_⟩) (run_main m ρ)
  · exact (h.rest_eq c main_v2 (by decide)).trans (tail m c)
  · exact (h.rest_eq c main_arg0 (by decide)).trans (W_main_arg0 m (dats m) c)

end Cert.Nurbs.Ker
-- ==== Proof.Equation.lean ====
/- The two results are one function of the control points. -/
module

public import proofs.«01_k».proof.Defs
public import proofs.«01_k».proof.Proof.Spread
public import proofs.«01_k».proof.Proof.Tables
public import proofs.«01_k».proof.Proof.Algebra
public import proofs.«01_k».proof.Proof.RefValue
public import proofs.«01_k».proof.Proof.KernelValue

@[expose] public section

set_option maxRecDepth 16384

noncomputable section

open Idealize.ShloMosaic Idealize.ShloMosaic.TcCoe Idealize.SL.Sem

namespace Cert.Nurbs

open Ref (posU posV wU wV)

/-- The place of row `p`, column `q` among the entries of an array of `n` columns, row-major. -/
theorem rowMajor_val {a b : ℕ} (p : Fin a) (q : Fin b) :
    ((⟨2, ![a, b]⟩ : Shape).rowMajor (ix2 p q) : ℕ) = p * b + q :=
  Shape.rowMajor_val_two _

/-- A word at an equal place is an equal word. -/
theorem word_at {n : ℕ} (f : ℕ → BitVec 32) (g : Fin n → BitVec 32) (hg : ∀ k : Fin n, g k = f k) (k : Fin n) (r : ℕ)
    (h : (k : ℕ) = r) : g k = f r := by rw [hg, h]

theorem wU_eq (u : Fin 128) (i : Fin 4) : wU u i = Ideal.ofBits .f32 (ReferenceIdeal.lit0t (u * 4 + i)) :=
  congrArg (Ideal.ofBits .f32) (word_at ReferenceIdeal.lit0t ReferenceIdeal.lit0 (fun _ => rfl) _ _ (rowMajor_val u i))

theorem wV_eq (v : Fin 128) (j : Fin 4) : wV v j = Ideal.ofBits .f32 (ReferenceIdeal.lit1t (v * 4 + j)) :=
  congrArg (Ideal.ofBits .f32) (word_at ReferenceIdeal.lit1t ReferenceIdeal.lit1 (fun _ => rfl) _ _ (rowMajor_val v j))

theorem posU_eq (u : Fin 128) (i : Fin 4) : (posU u i : ℕ) = (ReferenceIdeal.lit2t (u * 4 + i)).toNat :=
  show (ReferenceIdeal.lit2 (ReferenceIdeal.S128x4.rowMajor (ix2 u i))).toNat = _ from
    congrArg (fun b : BitVec 32 => b.toNat) (word_at ReferenceIdeal.lit2t ReferenceIdeal.lit2 (fun _ => rfl) _ _ (rowMajor_val u i))

theorem posV_eq (v : Fin 128) (j : Fin 4) : (posV v j : ℕ) = (ReferenceIdeal.lit3t (v * 4 + j)).toNat :=
  show (ReferenceIdeal.lit3 (ReferenceIdeal.S128x4.rowMajor (ix2 v j))).toNat = _ from
    congrArg (fun b : BitVec 32 => b.toNat) (word_at ReferenceIdeal.lit3t ReferenceIdeal.lit3 (fun _ => rfl) _ _ (rowMajor_val v j))

theorem basis_eq (u : Fin 128) (k : Fin 32) : Ker.basis (ix2 u k) = Ideal.ofBits .f32 (KernelIdeal.lit0t (u * 32 + k)) :=
  congrArg (Ideal.ofBits .f32) (word_at KernelIdeal.lit0t KernelIdeal.lit0 (fun _ => rfl) _ _ (rowMajor_val u k))

theorem spread_eq (l : Fin 128) (q : Fin 512) : Ker.spread (ix2 l q) = Ideal.ofBits .f32 (KernelIdeal.lit1t (l * 512 + q)) :=
  congrArg (Ideal.ofBits .f32) (word_at KernelIdeal.lit1t KernelIdeal.lit1 (fun _ => rfl) _ _ (rowMajor_val l q))

/-- The tests of one entry of the reference's tables, read off. -/
theorem entry_facts (r : Fin 128) (i : Fin 4) :
    (ReferenceIdeal.lit0t (r * 4 + i)).toNat < 0x7F800000 ∧ (ReferenceIdeal.lit1t (r * 4 + i)).toNat < 0x7F800000
    ∧ (ReferenceIdeal.lit2t (r * 4 + i)).toNat = (ReferenceIdeal.lit2t (r * 4)).toNat + i
    ∧ (ReferenceIdeal.lit3t (r * 4 + i)).toNat = (ReferenceIdeal.lit3t (r * 4)).toNat + i := by
  have h := holdsFrom_spec _ _ _ entryGood_test (r * 4 + i) (by omega) (by norm_num; omega)
  have h1 : ((r : ℕ) * 4 + i) / 4 * 4 = r * 4 := by omega
  have h2 : ((r : ℕ) * 4 + i) % 4 = i := by omega
  unfold entryGood at h
  rw [h1, h2] at h
  simp only [Bool.and_eq_true] at h
  exact ⟨(Nat.blt_eq ..).mp h.1.1, (Nat.blt_eq ..).mp h.1.2, Nat.eq_of_beq_eq_true h.2.1, Nat.eq_of_beq_eq_true h.2.2⟩

theorem good_wU (u : Fin 128) (i : Fin 4) : Good (wU u i) := by
  rw [wU_eq]; exact good_ofBits _ (entry_facts u i).1

theorem good_wV (v : Fin 128) (j : Fin 4) : Good (wV v j) := by
  rw [wV_eq]; exact good_ofBits _ (entry_facts v j).2.1

/-- A row's four positions are distinct. -/
theorem posU_inj (u : Fin 128) : Function.Injective (posU u) := fun i i' h => by
  have e := congrArg Fin.val h
  rw [posU_eq, posU_eq, (entry_facts u i).2.2.1, (entry_facts u i').2.2.1] at e
  exact Fin.ext (by omega)

theorem posV_inj (v : Fin 128) : Function.Injective (posV v) := fun j j' h => by
  have e := congrArg Fin.val h
  rw [posV_eq, posV_eq, (entry_facts v j).2.2.2, (entry_facts v j').2.2.2] at e
  exact Fin.ext (by omega)

/-- The row of the widened second basis that holds coordinate `c` at row `v`'s position `j`. -/
def lane (v : Fin 128) (c : Fin 4) (j : Fin 4) : Fin 128 := ⟨posV v j * 4 + c, by omega⟩

theorem lane_inj (v : Fin 128) (c : Fin 4) : Function.Injective (lane v c) := fun j j' h => by
  have e := congrArg Fin.val h
  simp only [lane] at e
  exact posV_inj v (Fin.ext (by omega))

/-- The float of the zero word is zero. -/
theorem ofBits_zero (b : BitVec 32) (h : b.toNat = 0) : Ideal.ofBits .f32 b = 0 := by
  have : b = 0#32 := BitVec.eq_of_toNat_eq h
  subst this
  simp [Ideal.ofBits, Ideal.ieee]

/-- The kernel's first basis at a row's position is the reference's entry. -/
theorem basis_on (u : Fin 128) (i : Fin 4) : Ker.basis (ix2 u (posU u i)) = wU u i := by
  have h := holdsFrom_spec _ _ _ basisOn_test (u * 4 + i) (by omega) (by norm_num; omega)
  have h1 : ((u : ℕ) * 4 + i) / 4 = u := by omega
  unfold basisOn at h
  rw [h1] at h
  rw [basis_eq, wU_eq, posU_eq]
  exact congrArg (Ideal.ofBits .f32) (BitVec.eq_of_toNat_eq (Nat.eq_of_beq_eq_true h))

/-- Off a row's positions the kernel's first basis is zero. -/
theorem basis_off (u : Fin 128) (k : Fin 32) (hk : k ∉ Set.range (posU u)) : Ker.basis (ix2 u k) = 0 := by
  have h := holdsFrom_spec _ _ _ basisOff_test (u * 32 + k) (by omega) (by norm_num; omega)
  have h1 : ((u : ℕ) * 32 + k) / 32 = u := by omega
  have h2 : ((u : ℕ) * 32 + k) % 32 = k := by omega
  have no : ∀ i : Fin 4, (k : ℕ) ≠ (ReferenceIdeal.lit2t (u * 4 + i)).toNat := fun i e =>
    hk ⟨i, Fin.ext ((posU_eq u i).trans e.symm)⟩
  unfold basisOff at h
  rw [h1, h2] at h
  simp only [Bool.or_eq_true, Nat.beq_eq] at h
  rw [basis_eq]
  rcases h with h | (h | h) | (h | h)
  · exact ofBits_zero _ h
  · exact absurd h (no 0)
  · exact absurd h (no 1)
  · exact absurd h (no 2)
  · exact absurd h (no 3)

/-- The widened second basis at a lane of coordinate `c` is the reference's entry. -/
theorem spread_on (v : Fin 128) (c : Fin 4) (j : Fin 4) :
    Ker.spread (ix2 (lane v c j) ⟨128 * c + v, by omega⟩) = wV v j := by
  have h := holdsFrom_spec _ _ _ spreadOn_test (c * 512 + (v * 4 + j)) (by omega) (by norm_num; omega)
  have h1 : ((c : ℕ) * 512 + (v * 4 + j)) / 512 = c := by omega
  have h2 : ((c : ℕ) * 512 + (v * 4 + j)) % 512 = v * 4 + j := by omega
  have h3 : ((v : ℕ) * 4 + j) / 4 = v := by omega
  unfold spreadOn at h
  rw [h1, h2, h3] at h
  rw [spread_eq, wV_eq]
  simp only [lane, posV_eq]
  exact congrArg (Ideal.ofBits .f32) (BitVec.eq_of_toNat_eq (Nat.eq_of_beq_eq_true h))

/-- Off the lanes of coordinate `c` the widened second basis is zero. -/
theorem spread_off (v : Fin 128) (c : Fin 4) (l : Fin 128) (hl : l ∉ Set.range (lane v c)) :
    Ker.spread (ix2 l ⟨128 * c + v, by omega⟩) = 0 := by
  have h := spreadOff_all (l * 512 + (128 * c + v)) (by omega)
  have h1 : ((l : ℕ) * 512 + (128 * c + v)) / 512 = l := by omega
  have h2 : ((l : ℕ) * 512 + (128 * c + v)) % 512 / 128 = c := by omega
  have h3 : ((l : ℕ) * 512 + (128 * c + v)) % 128 = v := by omega
  have no : ∀ j : Fin 4, (l : ℕ) ≠ (ReferenceIdeal.lit3t (v * 4 + j)).toNat * 4 + c := fun j e =>
    hl ⟨j, Fin.ext (by simp only [lane, posV_eq]; exact e.symm)⟩
  unfold spreadOff at h
  rw [h1, h2, h3] at h
  simp only [Bool.or_eq_true, Nat.beq_eq] at h
  rw [spread_eq]
  rcases h with h | (h | h) | (h | h)
  · exact ofBits_zero _ h
  · exact absurd h (no 0)
  · exact absurd h (no 1)
  · exact absurd h (no 2)
  · exact absurd h (no 3)

/-- The kernel's projected surface is the reference's weighted surface, coordinate by coordinate. -/
theorem proj_eq (x : FVec Ideal ReferenceIdeal.S128x32x32x4 .f32) (b u v : Fin 128) (c : Fin 4) :
    Ker.projOf x b u ⟨128 * c + v, by omega⟩ = Ref.surf x (ix4 b u v c) := by
  rw [Ref.surf_apply, ← sum_swap (fun i j => x (ix4 b (posU u i) (posV v j) c)) (wU u) (wV v) (good_wU u) (good_wV v)]
  unfold Ker.projOf
  refine (Fintype.sum_of_injective (posU u) (posU_inj u) _ _ (fun k hk => ?_) fun i => ?_).symm
  · rw [basis_off u k hk, zero_mul]
  · rw [basis_on]
    refine congrArg (wU u i * ·) ?_
    refine Fintype.sum_of_injective (lane v c) (lane_inj v c) _ _ (fun l hl => ?_) fun j => ?_
    · rw [spread_off v c l hl, mul_zero]
    · rw [spread_on]
      refine congrArg (· * wV v j) (congrArg₂ (fun p q => x (ix4 b (posU u i) p q)) ?_ ?_)
      · exact Fin.ext (by simp only [lane]; omega)
      · exact Fin.ext (by simp only [lane]; omega)

/-- The kernel's result is the reference's, at every control net. -/
theorem out_eq (x : FVec Ideal ReferenceIdeal.S128x32x32x4 .f32) : Ker.out x = Ref.out x := by
  funext y
  idx_vars y
  rw [Ref.out_apply]
  have e : Ker.out x (ix4 y0 y1 y2 y3) = Ker.arr x (ix4 y0 y3 y1 y2) := by
    pointwise [Ker.out]
  rw [e]
  show Ker.projOf x y0 y1 ⟨128 * y3 + y2, _⟩ * Ideal.div 1 (max (Ker.projOf x y0 y1 ⟨384 + y2, _⟩) _) = _
  have h1 := proj_eq x y0 y1 y2 ⟨y3, by omega⟩
  have h2 := proj_eq x y0 y1 y2 3
  rw [← h1, ← h2]
  exact mul_recip _ _

end Cert.Nurbs
-- ==== Proof.lean ====
/- The five claims of Defs.lean: the kernel as printed, the kernel at ideal floats and the reference at ideal floats
   each run, fault nothing, leave their argument alone and end with every counter at zero; the idealized kernel
   is the printed one; and, at ideal floats, kernel and reference end with the same result. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Nurbs

/-- The reference runs, leaves its argument alone and ends with every counter at zero. -/
theorem frame_reference : quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- At ideal floats, from equal control nets, kernel and reference end with the same surface points. -/
theorem equal_results : algebraic_KernelIdeal_ReferenceIdeal (hKernelIdeal := Cert.KernelIdeal.Gen.facts)
    (hReferenceIdeal := Cert.ReferenceIdeal.Gen.facts) := by
  intro m g m' g' _ same
  refine ⟨fun c => Ker.out (m ((c.tc : Thread _ _).loc Cert.KernelIdeal.main_arg0)), Ker.run m g, ?_⟩
  refine (θ_run _ _ _).mono (fun r h c => ⟨?_, (h c).2⟩) (Cert.ReferenceIdeal.Value.run m' g')
  rw [(h c).1, Ref.res_eq, same c]
  exact (out_eq _).symm

/-- Every claim of Defs.lean holds. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference,
    trivial, equal_results⟩

end Cert.Proof

end
